-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v182) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x64x16 : Shape := ⟨3, ![10000, 64, 16]⟩
abbrev S10000x16 : Shape := ⟨2, ![10000, 16]⟩
abbrev S256x99 : Shape := ⟨2, ![256, 99]⟩
abbrev S16x256 : Shape := ⟨2, ![16, 256]⟩
abbrev S1x10000x1x16 : Shape := ⟨4, ![1, 10000, 1, 16]⟩
abbrev S1x10000x16x16 : Shape := ⟨4, ![1, 10000, 16, 16]⟩
abbrev S10000x256 : Shape := ⟨2, ![10000, 256]⟩
abbrev S10000x1x256 : Shape := ⟨3, ![10000, 1, 256]⟩
abbrev S10000x64x99 : Shape := ⟨3, ![10000, 64, 99]⟩
abbrev S125x64x16 : Shape := ⟨3, ![125, 64, 16]⟩
abbrev S125x1x256 : Shape := ⟨3, ![125, 1, 256]⟩
abbrev S125x64x99 : Shape := ⟨3, ![125, 64, 99]⟩
abbrev S8000x16 : Shape := ⟨2, ![8000, 16]⟩
abbrev S8000x256 : Shape := ⟨2, ![8000, 256]⟩
abbrev S125x64x256 : Shape := ⟨3, ![125, 64, 256]⟩
abbrev S8000x99 : Shape := ⟨2, ![8000, 99]⟩

abbrev nBuf : Space → Nat
  | .hbm => 9
  | .vmem => 8
  | .smem => 0
  | _ => 0

abbrev bufTy : (tb : Table) → Fin (tcTables nBuf tb) → BufTy
  | .hbm, ⟨0, _⟩ => ⟨S10000x64x16, .f32⟩
  | .hbm, ⟨1, _⟩ => ⟨S10000x16, .f32⟩
  | .hbm, ⟨2, _⟩ => ⟨S256x99, .f32⟩
  | .hbm, ⟨3, _⟩ => ⟨S16x256, .f32⟩
  | .hbm, ⟨4, _⟩ => ⟨S1x10000x1x16, .f32⟩
  | .hbm, ⟨5, _⟩ => ⟨S1x10000x16x16, .f32⟩
  | .hbm, ⟨6, _⟩ => ⟨S10000x256, .f32⟩
  | .hbm, ⟨7, _⟩ => ⟨S10000x1x256, .f32⟩
  | .hbm, ⟨8, _⟩ => ⟨S10000x64x99, .f32⟩
  | .local _ .vmem, ⟨0, _⟩ => ⟨S125x64x16, .f32⟩
  | .local _ .vmem, ⟨1, _⟩ => ⟨S125x64x16, .f32⟩
  | .local _ .vmem, ⟨2, _⟩ => ⟨S125x1x256, .f32⟩
  | .local _ .vmem, ⟨3, _⟩ => ⟨S125x1x256, .f32⟩
  | .local _ .vmem, ⟨4, _⟩ => ⟨S16x256, .f32⟩
  | .local _ .vmem, ⟨5, _⟩ => ⟨S256x99, .f32⟩
  | .local _ .vmem, ⟨6, _⟩ => ⟨S125x64x99, .f32⟩
  | .local _ .vmem, ⟨7, _⟩ => ⟨S125x64x99, .f32⟩
  | _, _ => ⟨S10000x64x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![80], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S125x64x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S125x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x99 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S125x64x99 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S10000x64x16 : Shape := ⟨3, ![10000, 64, 16]⟩
abbrev S10000x16 : Shape := ⟨2, ![10000, 16]⟩
abbrev S1x1x1 : Shape := ⟨3, ![1, 1, 1]⟩
abbrev S1x3x3 : Shape := ⟨3, ![1, 3, 3]⟩
abbrev S1x5x5 : Shape := ⟨3, ![1, 5, 5]⟩
abbrev S1x7x7 : Shape := ⟨3, ![1, 7, 7]⟩
abbrev S3x1x3 : Shape := ⟨3, ![3, 1, 3]⟩
abbrev S3x3x1 : Shape := ⟨3, ![3, 3, 1]⟩
abbrev S3x3x5 : Shape := ⟨3, ![3, 3, 5]⟩
abbrev S3x5x3 : Shape := ⟨3, ![3, 5, 3]⟩
abbrev S3x5x7 : Shape := ⟨3, ![3, 5, 7]⟩
abbrev S3x7x5 : Shape := ⟨3, ![3, 7, 5]⟩
abbrev S5x1x5 : Shape := ⟨3, ![5, 1, 5]⟩
abbrev S5x3x3 : Shape := ⟨3, ![5, 3, 3]⟩
abbrev S5x3x7 : Shape := ⟨3, ![5, 3, 7]⟩
abbrev S5x5x1 : Shape := ⟨3, ![5, 5, 1]⟩
abbrev S5x5x5 : Shape := ⟨3, ![5, 5, 5]⟩
abbrev S5x7x3 : Shape := ⟨3, ![5, 7, 3]⟩
abbrev S5x7x7 : Shape := ⟨3, ![5, 7, 7]⟩
abbrev S7x1x7 : Shape := ⟨3, ![7, 1, 7]⟩
abbrev S7x3x5 : Shape := ⟨3, ![7, 3, 5]⟩
abbrev S7x5x3 : Shape := ⟨3, ![7, 5, 3]⟩
abbrev S7x5x7 : Shape := ⟨3, ![7, 5, 7]⟩
abbrev S7x7x1 : Shape := ⟨3, ![7, 7, 1]⟩
abbrev S7x7x5 : Shape := ⟨3, ![7, 7, 5]⟩
abbrev S10000x64x1 : Shape := ⟨3, ![10000, 64, 1]⟩
abbrev S10000x1 : Shape := ⟨2, ![10000, 1]⟩
abbrev S10000x64x1x1 : Shape := ⟨4, ![10000, 64, 1, 1]⟩
abbrev S10000x1x1x1 : Shape := ⟨4, ![10000, 1, 1, 1]⟩
abbrev S10000x3 : Shape := ⟨2, ![10000, 3]⟩
abbrev S10000x1x1x3 : Shape := ⟨4, ![10000, 1, 1, 3]⟩
abbrev S10000x64x1x3 : Shape := ⟨4, ![10000, 64, 1, 3]⟩
abbrev S10000x64x3 : Shape := ⟨3, ![10000, 64, 3]⟩
abbrev S10000x5 : Shape := ⟨2, ![10000, 5]⟩
abbrev S10000x1x1x5 : Shape := ⟨4, ![10000, 1, 1, 5]⟩
abbrev S10000x64x1x5 : Shape := ⟨4, ![10000, 64, 1, 5]⟩
abbrev S10000x64x5 : Shape := ⟨3, ![10000, 64, 5]⟩
abbrev S10000x7 : Shape := ⟨2, ![10000, 7]⟩
abbrev S10000x1x1x7 : Shape := ⟨4, ![10000, 1, 1, 7]⟩
abbrev S10000x64x1x7 : Shape := ⟨4, ![10000, 64, 1, 7]⟩
abbrev S10000x64x7 : Shape := ⟨3, ![10000, 64, 7]⟩
abbrev S10000x64x3x1 : Shape := ⟨4, ![10000, 64, 3, 1]⟩
abbrev S10000x64x3x3 : Shape := ⟨4, ![10000, 64, 3, 3]⟩
abbrev S10000x64x3x5 : Shape := ⟨4, ![10000, 64, 3, 5]⟩
abbrev S10000x64x3x7 : Shape := ⟨4, ![10000, 64, 3, 7]⟩
abbrev S10000x64x5x1 : Shape := ⟨4, ![10000, 64, 5, 1]⟩
abbrev S10000x64x5x3 : Shape := ⟨4, ![10000, 64, 5, 3]⟩
abbrev S10000x64x5x5 : Shape := ⟨4, ![10000, 64, 5, 5]⟩
abbrev S10000x64x5x7 : Shape := ⟨4, ![10000, 64, 5, 7]⟩
abbrev S10000x64x7x1 : Shape := ⟨4, ![10000, 64, 7, 1]⟩
abbrev S10000x64x7x3 : Shape := ⟨4, ![10000, 64, 7, 3]⟩
abbrev S10000x64x7x5 : Shape := ⟨4, ![10000, 64, 7, 5]⟩
abbrev S10000x64x7x7 : Shape := ⟨4, ![10000, 64, 7, 7]⟩
abbrev S10000x64x64 : Shape := ⟨3, ![10000, 64, 64]⟩
abbrev S10000x64x35 : Shape := ⟨3, ![10000, 64, 35]⟩
abbrev S10000x64x99 : Shape := ⟨3, ![10000, 64, 99]⟩

abbrev nBuf : Space → Nat
  | .hbm => 208
  | .vmem => 0
  | .smem => 0
  | _ => 0

abbrev hbmTy0_0 (i : Nat) : BufTy := match i % 128 with
  | 0 => ⟨S10000x64x16, .f32⟩
  | 1 => ⟨S10000x16, .f32⟩
  | 2 => ⟨S1x1x1, .f32⟩
  | 3 => ⟨S1x3x3, .f32⟩
  | 4 => ⟨S1x5x5, .f32⟩
  | 5 => ⟨S1x7x7, .f32⟩
  | 6 => ⟨S3x1x3, .f32⟩
  | 7 => ⟨S3x3x1, .f32⟩
  | 8 => ⟨S3x3x5, .f32⟩
  | 9 => ⟨S3x5x3, .f32⟩
  | 10 => ⟨S3x5x7, .f32⟩
  | 11 => ⟨S3x7x5, .f32⟩
  | 12 => ⟨S5x1x5, .f32⟩
  | 13 => ⟨S5x3x3, .f32⟩
  | 14 => ⟨S5x3x7, .f32⟩
  | 15 => ⟨S5x5x1, .f32⟩
  | 16 => ⟨S5x5x5, .f32⟩
  | 17 => ⟨S5x7x3, .f32⟩
  | 18 => ⟨S5x7x7, .f32⟩
  | 19 => ⟨S7x1x7, .f32⟩
  | 20 => ⟨S7x3x5, .f32⟩
  | 21 => ⟨S7x5x3, .f32⟩
  | 22 => ⟨S7x5x7, .f32⟩
  | 23 => ⟨S7x7x1, .f32⟩
  | 24 => ⟨S7x7x5, .f32⟩
  | 25 => ⟨S10000x64x1, .f32⟩
  | 26 => ⟨S10000x1, .f32⟩
  | 27 => ⟨S10000x64x1x1, .f32⟩
  | 28 => ⟨S10000x1x1x1, .f32⟩
  | 29 => ⟨S10000x64x1x1, .f32⟩
  | 30 => ⟨S10000x64x1x1, .f32⟩
  | 31 => ⟨S10000x64x1, .f32⟩
  | 32 => ⟨S10000x64x1, .f32⟩
  | 33 => ⟨S10000x3, .f32⟩
  | 34 => ⟨S10000x64x1x1, .f32⟩
  | 35 => ⟨S10000x1x1x3, .f32⟩
  | 36 => ⟨S10000x64x1x3, .f32⟩
  | 37 => ⟨S10000x64x1x3, .f32⟩
  | 38 => ⟨S10000x64x1x3, .f32⟩
  | 39 => ⟨S10000x64x3, .f32⟩
  | 40 => ⟨S10000x64x1, .f32⟩
  | 41 => ⟨S10000x5, .f32⟩
  | 42 => ⟨S10000x64x1x1, .f32⟩
  | 43 => ⟨S10000x1x1x5, .f32⟩
  | 44 => ⟨S10000x64x1x5, .f32⟩
  | 45 => ⟨S10000x64x1x5, .f32⟩
  | 46 => ⟨S10000x64x1x5, .f32⟩
  | 47 => ⟨S10000x64x5, .f32⟩
  | 48 => ⟨S10000x64x1, .f32⟩
  | 49 => ⟨S10000x7, .f32⟩
  | 50 => ⟨S10000x64x1x1, .f32⟩
  | 51 => ⟨S10000x1x1x7, .f32⟩
  | 52 => ⟨S10000x64x1x7, .f32⟩
  | 53 => ⟨S10000x64x1x7, .f32⟩
  | 54 => ⟨S10000x64x1x7, .f32⟩
  | 55 => ⟨S10000x64x7, .f32⟩
  | 56 => ⟨S10000x64x3, .f32⟩
  | 57 => ⟨S10000x1, .f32⟩
  | 58 => ⟨S10000x64x3x1, .f32⟩
  | 59 => ⟨S10000x1x1x1, .f32⟩
  | 60 => ⟨S10000x64x3x1, .f32⟩
  | 61 => ⟨S10000x64x3x1, .f32⟩
  | 62 => ⟨S10000x64x3, .f32⟩
  | 63 => ⟨S10000x64x3, .f32⟩
  | 64 => ⟨S10000x3, .f32⟩
  | 65 => ⟨S10000x64x3x1, .f32⟩
  | 66 => ⟨S10000x1x1x3, .f32⟩
  | 67 => ⟨S10000x64x3x3, .f32⟩
  | 68 => ⟨S10000x64x3x3, .f32⟩
  | 69 => ⟨S10000x64x3x3, .f32⟩
  | 70 => ⟨S10000x64x1, .f32⟩
  | 71 => ⟨S10000x64x3, .f32⟩
  | 72 => ⟨S10000x3, .f32⟩
  | 73 => ⟨S10000x64x3x1, .f32⟩
  | 74 => ⟨S10000x1x1x3, .f32⟩
  | 75 => ⟨S10000x64x3x3, .f32⟩
  | 76 => ⟨S10000x64x3x3, .f32⟩
  | 77 => ⟨S10000x64x3x3, .f32⟩
  | 78 => ⟨S10000x64x5, .f32⟩
  | 79 => ⟨S10000x64x3, .f32⟩
  | 80 => ⟨S10000x5, .f32⟩
  | 81 => ⟨S10000x64x3x1, .f32⟩
  | 82 => ⟨S10000x1x1x5, .f32⟩
  | 83 => ⟨S10000x64x3x5, .f32⟩
  | 84 => ⟨S10000x64x3x5, .f32⟩
  | 85 => ⟨S10000x64x3x5, .f32⟩
  | 86 => ⟨S10000x64x3, .f32⟩
  | 87 => ⟨S10000x64x3, .f32⟩
  | 88 => ⟨S10000x5, .f32⟩
  | 89 => ⟨S10000x64x3x1, .f32⟩
  | 90 => ⟨S10000x1x1x5, .f32⟩
  | 91 => ⟨S10000x64x3x5, .f32⟩
  | 92 => ⟨S10000x64x3x5, .f32⟩
  | 93 => ⟨S10000x64x3x5, .f32⟩
  | 94 => ⟨S10000x64x7, .f32⟩
  | 95 => ⟨S10000x64x3, .f32⟩
  | 96 => ⟨S10000x7, .f32⟩
  | 97 => ⟨S10000x64x3x1, .f32⟩
  | 98 => ⟨S10000x1x1x7, .f32⟩
  | 99 => ⟨S10000x64x3x7, .f32⟩
  | 100 => ⟨S10000x64x3x7, .f32⟩
  | 101 => ⟨S10000x64x3x7, .f32⟩
  | 102 => ⟨S10000x64x5, .f32⟩
  | 103 => ⟨S10000x64x5, .f32⟩
  | 104 => ⟨S10000x1, .f32⟩
  | 105 => ⟨S10000x64x5x1, .f32⟩
  | 106 => ⟨S10000x1x1x1, .f32⟩
  | 107 => ⟨S10000x64x5x1, .f32⟩
  | 108 => ⟨S10000x64x5x1, .f32⟩
  | 109 => ⟨S10000x64x5, .f32⟩
  | 110 => ⟨S10000x64x5, .f32⟩
  | 111 => ⟨S10000x3, .f32⟩
  | 112 => ⟨S10000x64x5x1, .f32⟩
  | 113 => ⟨S10000x1x1x3, .f32⟩
  | 114 => ⟨S10000x64x5x3, .f32⟩
  | 115 => ⟨S10000x64x5x3, .f32⟩
  | 116 => ⟨S10000x64x5x3, .f32⟩
  | 117 => ⟨S10000x64x3, .f32⟩
  | 118 => ⟨S10000x64x5, .f32⟩
  | 119 => ⟨S10000x3, .f32⟩
  | 120 => ⟨S10000x64x5x1, .f32⟩
  | 121 => ⟨S10000x1x1x3, .f32⟩
  | 122 => ⟨S10000x64x5x3, .f32⟩
  | 123 => ⟨S10000x64x5x3, .f32⟩
  | 124 => ⟨S10000x64x5x3, .f32⟩
  | 125 => ⟨S10000x64x7, .f32⟩
  | 126 => ⟨S10000x64x5, .f32⟩
  | 127 => ⟨S10000x5, .f32⟩
  | _ => ⟨S10000x64x16, .f32⟩

abbrev hbmTy0_1 (i : Nat) : BufTy := match i % 128 with
  | 0 => ⟨S10000x64x5x1, .f32⟩
  | 1 => ⟨S10000x1x1x5, .f32⟩
  | 2 => ⟨S10000x64x5x5, .f32⟩
  | 3 => ⟨S10000x64x5x5, .f32⟩
  | 4 => ⟨S10000x64x5x5, .f32⟩
  | 5 => ⟨S10000x64x1, .f32⟩
  | 6 => ⟨S10000x64x5, .f32⟩
  | 7 => ⟨S10000x5, .f32⟩
  | 8 => ⟨S10000x64x5x1, .f32⟩
  | 9 => ⟨S10000x1x1x5, .f32⟩
  | 10 => ⟨S10000x64x5x5, .f32⟩
  | 11 => ⟨S10000x64x5x5, .f32⟩
  | 12 => ⟨S10000x64x5x5, .f32⟩
  | 13 => ⟨S10000x64x5, .f32⟩
  | 14 => ⟨S10000x64x5, .f32⟩
  | 15 => ⟨S10000x7, .f32⟩
  | 16 => ⟨S10000x64x5x1, .f32⟩
  | 17 => ⟨S10000x1x1x7, .f32⟩
  | 18 => ⟨S10000x64x5x7, .f32⟩
  | 19 => ⟨S10000x64x5x7, .f32⟩
  | 20 => ⟨S10000x64x5x7, .f32⟩
  | 21 => ⟨S10000x64x3, .f32⟩
  | 22 => ⟨S10000x64x5, .f32⟩
  | 23 => ⟨S10000x7, .f32⟩
  | 24 => ⟨S10000x64x5x1, .f32⟩
  | 25 => ⟨S10000x1x1x7, .f32⟩
  | 26 => ⟨S10000x64x5x7, .f32⟩
  | 27 => ⟨S10000x64x5x7, .f32⟩
  | 28 => ⟨S10000x64x5x7, .f32⟩
  | 29 => ⟨S10000x64x7, .f32⟩
  | 30 => ⟨S10000x64x7, .f32⟩
  | 31 => ⟨S10000x1, .f32⟩
  | 32 => ⟨S10000x64x7x1, .f32⟩
  | 33 => ⟨S10000x1x1x1, .f32⟩
  | 34 => ⟨S10000x64x7x1, .f32⟩
  | 35 => ⟨S10000x64x7x1, .f32⟩
  | 36 => ⟨S10000x64x7, .f32⟩
  | 37 => ⟨S10000x64x7, .f32⟩
  | 38 => ⟨S10000x3, .f32⟩
  | 39 => ⟨S10000x64x7x1, .f32⟩
  | 40 => ⟨S10000x1x1x3, .f32⟩
  | 41 => ⟨S10000x64x7x3, .f32⟩
  | 42 => ⟨S10000x64x7x3, .f32⟩
  | 43 => ⟨S10000x64x7x3, .f32⟩
  | 44 => ⟨S10000x64x5, .f32⟩
  | 45 => ⟨S10000x64x7, .f32⟩
  | 46 => ⟨S10000x5, .f32⟩
  | 47 => ⟨S10000x64x7x1, .f32⟩
  | 48 => ⟨S10000x1x1x5, .f32⟩
  | 49 => ⟨S10000x64x7x5, .f32⟩
  | 50 => ⟨S10000x64x7x5, .f32⟩
  | 51 => ⟨S10000x64x7x5, .f32⟩
  | 52 => ⟨S10000x64x3, .f32⟩
  | 53 => ⟨S10000x64x7, .f32⟩
  | 54 => ⟨S10000x5, .f32⟩
  | 55 => ⟨S10000x64x7x1, .f32⟩
  | 56 => ⟨S10000x1x1x5, .f32⟩
  | 57 => ⟨S10000x64x7x5, .f32⟩
  | 58 => ⟨S10000x64x7x5, .f32⟩
  | 59 => ⟨S10000x64x7x5, .f32⟩
  | 60 => ⟨S10000x64x7, .f32⟩
  | 61 => ⟨S10000x64x7, .f32⟩
  | 62 => ⟨S10000x7, .f32⟩
  | 63 => ⟨S10000x64x7x1, .f32⟩
  | 64 => ⟨S10000x1x1x7, .f32⟩
  | 65 => ⟨S10000x64x7x7, .f32⟩
  | 66 => ⟨S10000x64x7x7, .f32⟩
  | 67 => ⟨S10000x64x7x7, .f32⟩
  | 68 => ⟨S10000x64x1, .f32⟩
  | 69 => ⟨S10000x64x7, .f32⟩
  | 70 => ⟨S10000x7, .f32⟩
  | 71 => ⟨S10000x64x7x1, .f32⟩
  | 72 => ⟨S10000x1x1x7, .f32⟩
  | 73 => ⟨S10000x64x7x7, .f32⟩
  | 74 => ⟨S10000x64x7x7, .f32⟩
  | 75 => ⟨S10000x64x7x7, .f32⟩
  | 76 => ⟨S10000x64x5, .f32⟩
  | 77 => ⟨S10000x64x64, .f32⟩
  | 78 => ⟨S10000x64x35, .f32⟩
  | 79 => ⟨S10000x64x99, .f32⟩
  | _ => ⟨S10000x64x16, .f32⟩

abbrev hbmTy (i : Nat) : BufTy := match i / 128 with
  | 0 => hbmTy0_0 i
  | 1 => hbmTy0_1 i
  | _ => ⟨S10000x64x16, .f32⟩

abbrev bufTy : (tb : Table) → Fin (tcTables nBuf tb) → BufTy
  | .hbm, ⟨i, _⟩ => hbmTy i
  | _, _ => ⟨S10000x64x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_cst_1 : Ref sig .tc := ⟨.hbm, 4, rfl⟩
abbrev main_cst_2 : Ref sig .tc := ⟨.hbm, 5, rfl⟩
abbrev main_cst_3 : Ref sig .tc := ⟨.hbm, 6, rfl⟩
abbrev main_cst_4 : Ref sig .tc := ⟨.hbm, 7, rfl⟩
abbrev main_cst_5 : Ref sig .tc := ⟨.hbm, 8, rfl⟩
abbrev main_cst_6 : Ref sig .tc := ⟨.hbm, 9, rfl⟩
abbrev main_cst_7 : Ref sig .tc := ⟨.hbm, 10, rfl⟩
abbrev main_cst_8 : Ref sig .tc := ⟨.hbm, 11, rfl⟩
abbrev main_cst_9 : Ref sig .tc := ⟨.hbm, 12, rfl⟩
abbrev main_cst_10 : Ref sig .tc := ⟨.hbm, 13, rfl⟩
abbrev main_cst_11 : Ref sig .tc := ⟨.hbm, 14, rfl⟩
abbrev main_cst_12 : Ref sig .tc := ⟨.hbm, 15, rfl⟩
abbrev main_cst_13 : Ref sig .tc := ⟨.hbm, 16, rfl⟩
abbrev main_cst_14 : Ref sig .tc := ⟨.hbm, 17, rfl⟩
abbrev main_cst_15 : Ref sig .tc := ⟨.hbm, 18, rfl⟩
abbrev main_cst_16 : Ref sig .tc := ⟨.hbm, 19, rfl⟩
abbrev main_cst_17 : Ref sig .tc := ⟨.hbm, 20, rfl⟩
abbrev main_cst_18 : Ref sig .tc := ⟨.hbm, 21, rfl⟩
abbrev main_cst_19 : Ref sig .tc := ⟨.hbm, 22, rfl⟩
abbrev main_cst_20 : Ref sig .tc := ⟨.hbm, 23, rfl⟩
abbrev main_cst_21 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_v172 : Ref sig .tc := ⟨.hbm, 197, rfl⟩
abbrev main_v173 : Ref sig .tc := ⟨.hbm, 198, rfl⟩
abbrev main_v174 : Ref sig .tc := ⟨.hbm, 199, rfl⟩
abbrev main_v175 : Ref sig .tc := ⟨.hbm, 200, rfl⟩
abbrev main_v176 : Ref sig .tc := ⟨.hbm, 201, rfl⟩
abbrev main_v177 : Ref sig .tc := ⟨.hbm, 202, rfl⟩
abbrev main_v178 : Ref sig .tc := ⟨.hbm, 203, rfl⟩
abbrev main_v179 : Ref sig .tc := ⟨.hbm, 204, rfl⟩
abbrev main_v180 : Ref sig .tc := ⟨.hbm, 205, rfl⟩
abbrev main_v181 : Ref sig .tc := ⟨.hbm, 206, rfl⟩
abbrev main_v182 : Ref sig .tc := ⟨.hbm, 207, rfl⟩

abbrev nD : Nat := 1
abbrev τ : Topo := Topo.v7x

variable {F : FTy → Type} [FloatOps F]
-- ==== Proof.Sums.lean ====
/-
  FINITE SUMS OF EXTENDED REALS, the ones the two programs are compared through. A sum over 256 flattened positions is
  a double sum over 16 by 16; a sum whose terms vanish outside a window of positions is the sum over the window; a sum
  against a row with a single 1 and zeros elsewhere is the entry at that 1. None of them distributes a product over a
  sum, so none of them asks the entries to be finite.
-/
module

public import Idealize.ShloMosaic.Lib.Pointwise
public import Idealize.ShloMosaic.Lib.IdealHost

@[expose] public section

open scoped BigOperators
open Idealize.ShloMosaic

namespace Cert.Sums

/-- The flattened position of the pair `(a, b)`. -/
def pos (a b : Fin 16) : Fin 256 := ⟨16 * a.val + b.val, by omega⟩

/-- A sum over the 256 flattened positions, pair by pair. -/
theorem sum_pos {M : Type*} [AddCommMonoid M] (f : Fin 256 → M) :
    ∑ p : Fin 256, f p = ∑ a : Fin 16, ∑ b : Fin 16, f (pos a b) := by
  rw [← Equiv.sum_comp (finProdFinEquiv (m := 16) (n := 16)) f, Fintype.sum_prod_type]
  refine Finset.sum_congr rfl fun a _ => Finset.sum_congr rfl fun b _ => congrArg f (Fin.ext ?_)
  simp [pos, finProdFinEquiv, Nat.add_comm]

/-- A sum whose terms vanish outside the window `[o, o + n)` is the sum over the window. -/
theorem sum_window {M : Type*} [AddCommMonoid M] {N n o : ℕ} (h : o + n ≤ N) (f : Fin N → M)
    (hf : ∀ a : Fin N, ¬(o ≤ a.val ∧ a.val < o + n) → f a = 0) :
    ∑ a, f a = ∑ i : Fin n, f ⟨o + i.val, by omega⟩ := by
  refine (Fintype.sum_of_injective (fun i : Fin n => (⟨o + i.val, by omega⟩ : Fin N)) (fun i j hij => ?_) _ _ (fun a ha => ?_)
    (fun _ => rfl)).symm
  · simp only [Fin.mk.injEq] at hij
    exact Fin.ext (by omega)
  · refine hf a fun hw => ha ⟨⟨a.val - o, by omega⟩, Fin.ext ?_⟩
    show o + (a.val - o) = a.val
    omega

/-- The same on two axes: a double sum whose terms vanish outside the window `[o₁, o₁ + n₁) × [o₂, o₂ + n₂)`. -/
theorem sum_window₂ {M : Type*} [AddCommMonoid M] {N n₁ n₂ o₁ o₂ : ℕ} (h₁ : o₁ + n₁ ≤ N) (h₂ : o₂ + n₂ ≤ N)
    (f : Fin N → Fin N → M)
    (hf : ∀ a b : Fin N, ¬((o₁ ≤ a.val ∧ a.val < o₁ + n₁) ∧ (o₂ ≤ b.val ∧ b.val < o₂ + n₂)) → f a b = 0) :
    ∑ a, ∑ b, f a b = ∑ i : Fin n₁, ∑ j : Fin n₂, f ⟨o₁ + i.val, by omega⟩ ⟨o₂ + j.val, by omega⟩ := by
  rw [sum_window h₁ (fun a => ∑ b, f a b) fun a ha => Finset.sum_eq_zero fun b _ => hf a b fun hw => ha hw.1]
  exact Finset.sum_congr rfl fun i _ => sum_window h₂ _ fun b hb => hf _ b fun hw => hb hw.2

/-- A sum against a row that is 1 at one position and 0 elsewhere is the entry at that position. -/
theorem sum_select {N : ℕ} (f r : Fin N → EReal) (a : Fin N) (hr : ∀ q, r q = if q = a then 1 else 0) :
    ∑ q, f q * r q = f a := by
  rw [Finset.sum_eq_single a (fun q _ hq => by rw [hr, if_neg hq, mul_zero]) fun h => absurd (Finset.mem_univ a) h, hr, if_pos rfl,
    mul_one]

end Cert.Sums
-- ==== Proof.Tables.lean ====
/-
  THE CONSTANT TABLES OF THE TWO PROGRAMS. The kernel holds one table `W` of 256 rows (a pair of degree components
  `(a, b)`, flattened) by 99 columns, and one table `R` of 16 rows by 256 columns that repeats each component 16 times.
  The reference holds one coupling table per instruction, of shape `n₁ × n₂ × n₃`. `Placed` says that an instruction's
  table stands in `W` at rows `(o₁ + i, o₂ + j)` and columns `oo + k`, and that those columns of `W` are zero in every
  other row. Each fact compares words, entry by entry, and is decided.
-/
module

public import proofs.«01_k».proof.KernelIdeal
public import proofs.«01_k».proof.ReferenceIdeal
public import proofs.«01_k».proof.Proof.Sums

@[expose] public section

open Idealize.ShloMosaic

noncomputable section

namespace Cert.Tables

/-- The word of `W` at row `p` and column `k`. -/
def wWord (p : Fin 256) (k : Fin 99) : BitVec 32 := KernelIdeal.lit0 (KernelIdeal.S256x99.rowMajor (ix2 p k))

/-- The word of `R` at row `q` and column `p`. -/
def rWord (q : Fin 16) (p : Fin 256) : BitVec 32 := KernelIdeal.lit1 (KernelIdeal.S16x256.rowMajor (ix2 q p))

/-- `R` holds 1 where the row is the column's first component, and 0 elsewhere. -/
theorem rWord_eq : ∀ q a b : Fin 16, rWord q (Sums.pos a b) = if q = a then 0x3F800000#32 else 0x00000000#32 := by
  decide +kernel

/-- The table `g` of shape `n₁ × n₂ × n₃` stands in `W` at rows `(o₁ + i, o₂ + j)` and columns `oo + k`; in the other
    rows those columns are zero. -/
abbrev Placed (n₁ n₂ n₃ o₁ o₂ oo : ℕ) (g : (⟨3, ![n₁, n₂, n₃]⟩ : Shape).Idx → BitVec 32) : Prop :=
  ∀ a b : Fin 16, ∀ k : Fin n₃, ∀ hk : oo + k.val < 99, wWord (Sums.pos a b) ⟨oo + k.val, hk⟩ =
    if h : (o₁ ≤ a.val ∧ a.val < o₁ + n₁) ∧ (o₂ ≤ b.val ∧ b.val < o₂ + n₂) then
      g (ix3 ⟨a.val - o₁, by omega⟩ ⟨b.val - o₂, by omega⟩ k)
    else 0x00000000#32

/-! One fact per instruction, in the order of the reference: the instruction of degrees (0, 0, 0) first, its table the
    single entry 1. -/

theorem placed_0 : Placed 1 1 1 0 0 0 (fun _ => 0x3F800000#32) := by decide +kernel
theorem placed_1 : Placed 1 3 3 0 1 1 (fun i => ReferenceIdeal.lit0 (ReferenceIdeal.S1x3x3.rowMajor i)) := by
  decide +kernel
theorem placed_2 : Placed 1 5 5 0 4 4 (fun i => ReferenceIdeal.lit1 (ReferenceIdeal.S1x5x5.rowMajor i)) := by
  decide +kernel
theorem placed_3 : Placed 1 7 7 0 9 9 (fun i => ReferenceIdeal.lit2 (ReferenceIdeal.S1x7x7.rowMajor i)) := by
  decide +kernel
theorem placed_4 : Placed 3 1 3 1 0 16 (fun i => ReferenceIdeal.lit3 (ReferenceIdeal.S3x1x3.rowMajor i)) := by
  decide +kernel
theorem placed_5 : Placed 3 3 1 1 1 19 (fun i => ReferenceIdeal.lit4 (ReferenceIdeal.S3x3x1.rowMajor i)) := by
  decide +kernel
theorem placed_6 : Placed 3 3 5 1 1 20 (fun i => ReferenceIdeal.lit5 (ReferenceIdeal.S3x3x5.rowMajor i)) := by
  decide +kernel
theorem placed_7 : Placed 3 5 3 1 4 25 (fun i => ReferenceIdeal.lit6 (ReferenceIdeal.S3x5x3.rowMajor i)) := by
  decide +kernel
theorem placed_8 : Placed 3 5 7 1 4 28 (fun i => ReferenceIdeal.lit7 (ReferenceIdeal.S3x5x7.rowMajor i)) := by
  decide +kernel
theorem placed_9 : Placed 3 7 5 1 9 35 (fun i => ReferenceIdeal.lit8 (ReferenceIdeal.S3x7x5.rowMajor i)) := by
  decide +kernel
theorem placed_10 : Placed 5 1 5 4 0 40 (fun i => ReferenceIdeal.lit9 (ReferenceIdeal.S5x1x5.rowMajor i)) := by
  decide +kernel
theorem placed_11 : Placed 5 3 3 4 1 45 (fun i => ReferenceIdeal.lit10 (ReferenceIdeal.S5x3x3.rowMajor i)) := by
  decide +kernel
theorem placed_12 : Placed 5 3 7 4 1 48 (fun i => ReferenceIdeal.lit11 (ReferenceIdeal.S5x3x7.rowMajor i)) := by
  decide +kernel
theorem placed_13 : Placed 5 5 1 4 4 55 (fun i => ReferenceIdeal.lit12 (ReferenceIdeal.S5x5x1.rowMajor i)) := by
  decide +kernel
theorem placed_14 : Placed 5 5 5 4 4 56 (fun i => ReferenceIdeal.lit13 (ReferenceIdeal.S5x5x5.rowMajor i)) := by
  decide +kernel
theorem placed_15 : Placed 5 7 3 4 9 61 (fun i => ReferenceIdeal.lit14 (ReferenceIdeal.S5x7x3.rowMajor i)) := by
  decide +kernel
theorem placed_16 : Placed 5 7 7 4 9 64 (fun i => ReferenceIdeal.lit15 (ReferenceIdeal.S5x7x7.rowMajor i)) := by
  decide +kernel
theorem placed_17 : Placed 7 1 7 9 0 71 (fun i => ReferenceIdeal.lit16 (ReferenceIdeal.S7x1x7.rowMajor i)) := by
  decide +kernel
theorem placed_18 : Placed 7 3 5 9 1 78 (fun i => ReferenceIdeal.lit17 (ReferenceIdeal.S7x3x5.rowMajor i)) := by
  decide +kernel
theorem placed_19 : Placed 7 5 3 9 4 83 (fun i => ReferenceIdeal.lit18 (ReferenceIdeal.S7x5x3.rowMajor i)) := by
  decide +kernel
theorem placed_20 : Placed 7 5 7 9 4 86 (fun i => ReferenceIdeal.lit19 (ReferenceIdeal.S7x5x7.rowMajor i)) := by
  decide +kernel
theorem placed_21 : Placed 7 7 1 9 9 93 (fun i => ReferenceIdeal.lit20 (ReferenceIdeal.S7x7x1.rowMajor i)) := by
  decide +kernel
theorem placed_22 : Placed 7 7 5 9 9 94 (fun i => ReferenceIdeal.lit21 (ReferenceIdeal.S7x7x5.rowMajor i)) := by
  decide +kernel

end Cert.Tables

end
-- ==== Proof.KernelBlock.lean ====
/-
  WHAT ONE POINT OF THE KERNEL'S GRID COMPUTES, at an index of its block: the two matrix products with zero
  accumulators, the repeated `y` between them. `pay_apply` reads the stored block over the blocks loaded; `pay_tables`
  puts the two tables in: the first product only repeats a component of `x` (its table has a single 1 in each column),
  so the block is the double sum over pairs of components.
-/
module

public import proofs.«01_k».proof.Proof.Gen.KernelIdeal.Skeleton
public import proofs.«01_k».proof.Proof.Tables

@[expose] public section

open scoped BigOperators
open Idealize.ShloMosaic

noncomputable section

namespace Cert.KernelIdeal

variable [Facts]

theorem pay_apply (x : S125x64x16.Idx → EReal) (r : S16x256.Idx → EReal) (y : S125x1x256.Idx → EReal) (w : S256x99.Idx → EReal)
    (e : Fin 125) (c : Fin 64) (k : Fin 99) :
    (Gen.k0_pay1 (F := Ideal) x r y w : S125x64x99.Idx → EReal) (ix3 e c k) =
      ∑ p : Fin 256, (∑ q : Fin 16, x (ix3 e c q) * r (ix2 q p)) * y (ix3 e 0 p) * w (ix2 p k) := by
  pointwise [Gen.k0_pay1]

/-- The first table at a column: 1 in the row of the column's first component, 0 in the others. -/
theorem rWord_val (q a b : Fin 16) : Ideal.ofBits .f32 (Tables.rWord q (Sums.pos a b)) = if q = a then 1 else 0 := by
  rw [Tables.rWord_eq]
  split
  · exact Ideal.ofBits_one_f32
  · exact Ideal.ofBits_zero_f32

theorem pay_tables (x : S125x64x16.Idx → EReal) (r : S16x256.Idx → EReal) (y : S125x1x256.Idx → EReal) (w : S256x99.Idx → EReal)
    (y' : Fin 125 → Fin 16 → EReal) (hr : ∀ q p, r (ix2 q p) = Ideal.ofBits .f32 (Tables.rWord q p))
    (hw : ∀ p k, w (ix2 p k) = Ideal.ofBits .f32 (Tables.wWord p k)) (hy : ∀ e a b, y (ix3 e 0 (Sums.pos a b)) = y' e b)
    (e : Fin 125) (c : Fin 64) (k : Fin 99) :
    (Gen.k0_pay1 (F := Ideal) x r y w : S125x64x99.Idx → EReal) (ix3 e c k) =
      ∑ a : Fin 16, ∑ b : Fin 16, x (ix3 e c a) * y' e b * Ideal.ofBits .f32 (Tables.wWord (Sums.pos a b) k) := by
  rw [pay_apply, Sums.sum_pos]
  refine Finset.sum_congr rfl fun a _ => Finset.sum_congr rfl fun b _ => ?_
  rw [Sums.sum_select (fun q => x (ix3 e c q)) (fun q => r (ix2 q (Sums.pos a b))) a fun q => by rw [hr, rWord_val], hy, hw]

end Cert.KernelIdeal

end
-- ==== Proof.Spec.lean ====
/-
  THE ARRAY BOTH PROGRAMS COMPUTE, as sums over pairs of components: at edge `e`, channel `c` and column `k`,

      ∑ a, ∑ b, x[e, c, a] * y[e, b] * W[(a, b), k]

  over the extended reals, with `W` the kernel's table. `window_eq` reads it at a column of one instruction: the terms
  outside the instruction's window of components carry a zero of `W` and vanish, and what is left is the instruction's
  own sum against its own table.
-/
module

public import proofs.«01_k».proof.Proof.Tables

@[expose] public section

open scoped BigOperators
open Idealize.ShloMosaic

noncomputable section

namespace Cert.Spec

/-- The tensor product of `x` and `y` against the kernel's table. -/
def tp (x : (⟨3, ![10000, 64, 16]⟩ : Shape).Idx → EReal) (y : (⟨2, ![10000, 16]⟩ : Shape).Idx → EReal) :
    (⟨3, ![10000, 64, 99]⟩ : Shape).Idx → EReal := fun j =>
  ∑ a : Fin 16, ∑ b : Fin 16,
    x (ix3 (j 0) (j 1) a) * y (ix2 (j 0) b) * Ideal.ofBits .f32 (Tables.wWord (Sums.pos a b) (j 2))

theorem tp_apply (x : (⟨3, ![10000, 64, 16]⟩ : Shape).Idx → EReal) (y : (⟨2, ![10000, 16]⟩ : Shape).Idx → EReal)
    (e : Fin 10000) (c : Fin 64) (k : Fin 99) :
    tp x y (ix3 e c k) = ∑ a : Fin 16, ∑ b : Fin 16,
      x (ix3 e c a) * y (ix2 e b) * Ideal.ofBits .f32 (Tables.wWord (Sums.pos a b) k) := rfl

/-- At column `oo + k` of an instruction whose table `g` is placed in `W`, the array is the instruction's own sum. -/
theorem window_eq (x : (⟨3, ![10000, 64, 16]⟩ : Shape).Idx → EReal) (y : (⟨2, ![10000, 16]⟩ : Shape).Idx → EReal)
    {n₁ n₂ n₃ o₁ o₂ oo : ℕ} (h₁ : o₁ + n₁ ≤ 16) (h₂ : o₂ + n₂ ≤ 16)
    {g : (⟨3, ![n₁, n₂, n₃]⟩ : Shape).Idx → BitVec 32} (hg : Tables.Placed n₁ n₂ n₃ o₁ o₂ oo g)
    (e : Fin 10000) (c : Fin 64) (k : Fin n₃) (hk : oo + k.val < 99) :
    tp x y (ix3 e c ⟨oo + k.val, hk⟩) = ∑ i : Fin n₁, ∑ j : Fin n₂,
      x (ix3 e c ⟨o₁ + i.val, by omega⟩) * y (ix2 e ⟨o₂ + j.val, by omega⟩) * Ideal.ofBits .f32 (g (ix3 i j k)) := by
  rw [tp_apply, Sums.sum_window₂ h₁ h₂ _ fun a b hab => by rw [hg a b k hk, dif_neg hab, Ideal.ofBits_zero_f32, mul_zero]]
  refine Finset.sum_congr rfl fun i _ => Finset.sum_congr rfl fun j _ => ?_
  rw [hg _ _ k hk, dif_pos ⟨⟨Nat.le_add_right _ _, Nat.add_lt_add_left i.isLt _⟩, ⟨Nat.le_add_right _ _, Nat.add_lt_add_left j.isLt _⟩⟩]
  simp only [Nat.add_sub_cancel_left, Fin.eta]

end Cert.Spec

end
-- ==== Proof.KernelValue.lean ====
/-
  WHAT THE KERNEL'S RESULT HOLDS. First what the host operations before the call leave in the staged buffers (`staged_y`,
  `staged_W`, `staged_R`), then each window's block at coordinates (`block_x` … `place_out`: point `t` of the grid works on
  edges `125 t` to `125 t + 124`), and from these and the block's own value (Proof/KernelBlock.lean) the whole array:
  `arr_eq`, the array `Spec.tp` of the two arguments. `run` is the program's run with its result so named.
-/
module

public import proofs.«01_k».proof.Proof.Gen.KernelIdeal.Value
public import proofs.«01_k».proof.Proof.KernelBlock
public import proofs.«01_k».proof.Proof.Spec
public import Idealize.ShloMosaic.Lib.Pipeline.ValueKit.Geometry
public import Idealize.ShloMosaic.Lib.Pipeline.ValueKit.Acc
public import Idealize.ShloMosaic.Lib.StableHlo.ReadAt

@[expose] public section

open scoped BigOperators
open Idealize.ShloMosaic Idealize.ShloMosaic.Pipeline Idealize.SL Idealize.SL.Sem

noncomputable section

namespace Cert.KernelIdeal

variable (m : (ℓ : Loc nD τ sig) → Buf (Elt Ideal) ℓ)

/-- The staged `y`, each edge's 16 components repeated 16 times. -/
theorem staged_y (c : Dev nD) (e : Fin 10000) (a b : Fin 16) :
    (Gen.V m c main_v3 : S10000x1x256.Idx → EReal) (ix3 e 0 (Sums.pos a b)) =
      (m ((c.tc : Thread nD τ).loc main_arg1) : S10000x16.Idx → EReal) (ix2 e b) := by
  have hb : (⟨(Sums.pos a b).val % 16, Nat.mod_lt _ (by decide)⟩ : Fin 16) = b := Fin.ext (by simp [Sums.pos])
  unfold Gen.V
  after_reads_at
  rw [hb]

/-- The staged column table. -/
theorem staged_W (c : Dev nD) (p : Fin 256) (k : Fin 99) :
    (Gen.V m c main_cst : S256x99.Idx → EReal) (ix2 p k) = Ideal.ofBits .f32 (Tables.wWord p k) := by
  unfold Gen.V
  after_reads_at
  rfl

/-- The staged repetition table. -/
theorem staged_R (c : Dev nD) (q : Fin 16) (p : Fin 256) :
    (Gen.V m c main_cst_0 : S16x256.Idx → EReal) (ix2 q p) = Ideal.ofBits .f32 (Tables.rWord q p) := by
  unfold Gen.V
  after_reads_at
  rfl

/-- The edge that row `e` of point `t`'s block holds. -/
def edge (t : Fin cfg0.N) (e : Fin 125) : Fin 10000 := ⟨t.val * 125 + e.val, by
  have : t.val < 80 := t.isLt
  omega⟩

/-- The windows' block indices: `x`, `y` and the result move along the edges with the point, the tables stay. -/
theorem index_0 : ∀ t : Fin cfg0.N, win0_0.index t = ![t.val, 0, 0] :=
  (by decide +kernel : ∀ t : Fin grid0.N, win0_0.index t = ![t.val, 0, 0])
theorem index_1 : ∀ t : Fin cfg0.N, win0_1.index t = ![t.val, 0, 0] :=
  (by decide +kernel : ∀ t : Fin grid0.N, win0_1.index t = ![t.val, 0, 0])
theorem index_2 : ∀ t : Fin cfg0.N, win0_2.index t = ![0, 0] :=
  (by decide +kernel : ∀ t : Fin grid0.N, win0_2.index t = ![0, 0])
theorem index_3 : ∀ t : Fin cfg0.N, win0_3.index t = ![0, 0] :=
  (by decide +kernel : ∀ t : Fin grid0.N, win0_3.index t = ![0, 0])
theorem index_4 : ∀ t : Fin cfg0.N, win0_4.index t = ![t.val, 0, 0] :=
  (by decide +kernel : ∀ t : Fin grid0.N, win0_4.index t = ![t.val, 0, 0])

/-- Each window's block at coordinates. -/
theorem block_x (c : Dev nD) (t : Fin cfg0.N) (e : Fin 125) (k : Fin 64) (q : Fin 16) :
    (Gen.iblk m c 0 t : S125x64x16.Idx → EReal) (ix3 e k q) =
      (m ((c.tc : Thread nD τ).loc main_arg0) : S10000x64x16.Idx → EReal) (ix3 (edge t e) k q) := by
  rw [← Gen.V_main_arg0 m c]
  unfold edge
  blk_ext [Gen.iblk, index_0]

theorem block_y (c : Dev nD) (t : Fin cfg0.N) (e : Fin 125) (p : Fin 256) :
    (Gen.iblk m c 1 t : S125x1x256.Idx → EReal) (ix3 e 0 p) = (Gen.V m c main_v3 : S10000x1x256.Idx → EReal) (ix3 (edge t e) 0 p) := by
  unfold edge
  blk_ext [Gen.iblk, index_1]

theorem block_R (c : Dev nD) (t : Fin cfg0.N) (q : Fin 16) (p : Fin 256) :
    (Gen.iblk m c 2 t : S16x256.Idx → EReal) (ix2 q p) = (Gen.V m c main_cst_0 : S16x256.Idx → EReal) (ix2 q p) := by
  blk_ext [Gen.iblk, index_2]

theorem block_W (c : Dev nD) (t : Fin cfg0.N) (p : Fin 256) (k : Fin 99) :
    (Gen.iblk m c 3 t : S256x99.Idx → EReal) (ix2 p k) = (Gen.V m c main_cst : S256x99.Idx → EReal) (ix2 p k) := by
  blk_ext [Gen.iblk, index_3]

theorem place_out (t : Fin cfg0.N) (e : Fin 125) (k : Fin 64) (j : Fin 99) :
    (((View.whole main_v4).slice (win0_4.rect t)).emb (ix3 e k j) : S10000x64x99.Idx) = ix3 (edge t e) k j := by
  unfold edge
  blk_ext [index_4]

/-- The result array after the run: the tensor product of the two arguments, at every index. -/
theorem arr_eq (c : Dev nD) :
    (Gen.dats m 0 c).arrAt 4 cfg0.N = Spec.tp (m ((c.tc : Thread nD τ).loc main_arg0)) (m ((c.tc : Thread nD τ).loc main_arg1)) := by
  refine (Gen.dats m 0 c).arrAt_eq_of_covers 4 _ (by decide +kernel) fun t hf j => ?_
  blk_simp
  rw [Gen.after0_4]
  frame_out
  idx_vars j
  refine (pay_tables (Gen.iblk m c 0 t) (Gen.iblk m c 2 t) (Gen.iblk m c 1 t) (Gen.iblk m c 3 t)
    (fun e b => (m ((c.tc : Thread nD τ).loc main_arg1) : S10000x16.Idx → EReal) (ix2 (edge t e) b))
    (fun q p => (block_R m c t q p).trans (staged_R m c q p)) (fun p k => (block_W m c t p k).trans (staged_W m c p k))
    (fun e a b => (block_y m c t e _).trans (staged_y m c (edge t e) a b)) j0 j1 j2).trans ?_
  refine Eq.trans ?_ (congrArg (Spec.tp _ _) (place_out t j0 j1 j2).symm)
  rw [Spec.tp_apply]
  exact Finset.sum_congr rfl fun a _ => by rw [block_x]

/-- The run: the result is the array of the two arguments, which end unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v4) =
        Spec.tp (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (arr_eq m c), (h c).2⟩) (Value.run_blocks m ρ)

end Cert.KernelIdeal

end
-- ==== Proof.Concat.lean ====
/-
  A CONCATENATION OF WINDOWS. The reference joins its instructions' results along the last axis. `Fits G pre ps` says
  that the arrays `ps`, laid one after the other from column `pre` on, agree with the columns of `G`; `concat_apply`
  then reads their concatenation as those columns of `G`, and `Fits` composes, so a concatenation of concatenations is
  read the same way.
-/
module

public import Idealize.ShloMosaic.Lib.Pointwise
public import Idealize.ShloMosaic.Lib.Pipeline.Value

@[expose] public section

open Idealize.ShloMosaic

namespace Cert.Concat

variable {E C T : ℕ} {α : Type}

/-- The arrays, laid one after the other along the last axis from column `pre` on, agree with the columns of `G`. -/
inductive Fits (G : (⟨3, ![E, C, T]⟩ : Shape).Idx → α) : ℕ → List ((s : Shape) × (s.Idx → α)) → Prop
  | nil (pre : ℕ) : Fits G pre []
  | cons {pre n : ℕ} {v : (⟨3, ![E, C, n]⟩ : Shape).Idx → α} {ps : List ((s : Shape) × (s.Idx → α))}
      (hv : ∀ (e : Fin E) (c : Fin C) (k : Fin n) (hk : pre + k.val < T), v (ix3 e c k) = G (ix3 e c ⟨pre + k.val, hk⟩))
      (hps : Fits G (pre + n) ps) : Fits G pre (⟨⟨3, ![E, C, n]⟩, v⟩ :: ps)

/-- The extents of the arrays along the last axis. -/
abbrev widths (ps : List ((s : Shape) × (s.Idx → α))) : List ℕ :=
  (ps.map (·.1)).map fun s => if h : s.rank = 3 then s.size ((2 : Fin 3).cast h.symm) else 0

/-- A column inside the arrays' total extent falls in one of them, at its column less the extents before it. -/
theorem Fits.find {G : (⟨3, ![E, C, T]⟩ : Shape).Idx → α} {pre : ℕ} {ps : List ((s : Shape) × (s.Idx → α))} (hF : Fits G pre ps) :
    ∀ q : ℕ, q < (widths ps).sum → ∃ (k : ℕ) (hk : k < ps.length) (n : ℕ) (v : (⟨3, ![E, C, n]⟩ : Shape).Idx → α) (r : Fin n),
      ps[k] = ⟨⟨3, ![E, C, n]⟩, v⟩ ∧ (widths (ps.take k)).sum + r.val = q ∧
        ∀ (e : Fin E) (c : Fin C) (h : pre + q < T), v (ix3 e c r) = G (ix3 e c ⟨pre + q, h⟩) := by
  induction hF with
  | nil pre => intro q hq; exact absurd hq (by simp)
  | @cons pre n v ps hv hps ih =>
    intro q hq
    have hw : (widths (⟨⟨3, ![E, C, n]⟩, v⟩ :: ps)).sum = n + (widths ps).sum := rfl
    by_cases hqn : q < n
    · exact ⟨0, by simp, n, v, ⟨q, hqn⟩, rfl, by simp, fun e c h => hv e c ⟨q, hqn⟩ h⟩
    · obtain ⟨k, hk, n', v', r, h1, h2, h3⟩ := ih (q - n) (by omega)
      refine ⟨k + 1, by simpa using hk, n', v', r, by simpa using h1, ?_, fun e c h => ?_⟩
      · have : (widths ((⟨⟨3, ![E, C, n]⟩, v⟩ :: ps : List ((s : Shape) × (s.Idx → α))).take (k + 1))).sum = n + (widths (ps.take k)).sum := rfl
        omega
      · have hq' : pre + n + (q - n) = pre + q := by omega
        rw [h3 e c (by omega)]
        simp only [hq']

/-- The concatenation of arrays that fit `G` from column `pre` on is `G` from column `pre` on. -/
theorem concat_apply {G : (⟨3, ![E, C, T]⟩ : Shape).Idx → α} {pre n : ℕ} {ps : List ((s : Shape) × (s.Idx → α))} (hF : Fits G pre ps)
    (h : Shape.Concatenates (ps.map (·.1)) (⟨3, ![E, C, n]⟩ : Shape) 2) (e : Fin E) (c : Fin C) (k : Fin n) (hk : pre + k.val < T) :
    concatenate (⟨3, ![E, C, n]⟩ : Shape) 2 ps h (ix3 e c k) = G (ix3 e c ⟨pre + k.val, hk⟩) := by
  obtain ⟨p, hp, n', v, r, h1, h2, h3⟩ := hF.find k.val (by
    have : (widths ps).sum = n := h.2.2
    rw [this]; exact k.isLt)
  rw [← h3 e c hk]
  refine concatenate_apply_piece 2 ps h (ix3 e c k) p hp _ v h1 rfl _ rfl (ix3 e c r) (fun b hb => ?_) h2
  fin_cases b
  · rfl
  · rfl
  · exact absurd rfl hb

end Cert.Concat
-- ==== Proof.RefPiece.lean ====
/-
  WHAT ONE INSTRUCTION OF THE REFERENCE COMPUTES, at any sizes. An instruction cuts `n₁` components of `x` at `o₁` and
  `n₂` of `y` at `o₂`, forms all their products, and contracts the pairs with its `n₁ × n₂ × n₃` coupling table.
  `dot_apply` reads the contraction at an index as a double sum, `left_apply` (`left_apply_one` where `n₂` is 1, and the
  last repetition is not written) and `right_apply` read the two operands of the product, and `piece_eq` says that the
  instruction's result is its window of columns of the array `Spec.tp`, when its table is placed in the kernel's.
  `fits_piece` and `fits_piece_one` put an instruction, as the reference writes it, in front of the instructions after it.
-/
module

public import proofs.«01_k».proof.Proof.Spec
public import proofs.«01_k».proof.Proof.Concat

@[expose] public section

open scoped BigOperators
open Idealize.ShloMosaic

noncomputable section

namespace Cert.RefPiece

/-- The product of an `n₁ × n₂` block of pairs with an `n₁ × n₂ × n₃` table, contracted over the pair. -/
def dims {n₁ n₂ n₃ : ℕ}
    (wf : DotDims.WF (⟨4, ![10000, 64, n₁, n₂]⟩ : Shape) (⟨3, ![n₁, n₂, n₃]⟩ : Shape) (⟨3, ![10000, 64, n₃]⟩ : Shape)
      [2, 3] [0, 1] [0, 1] [2] [] []) :
    DotDims (⟨4, ![10000, 64, n₁, n₂]⟩ : Shape) (⟨3, ![n₁, n₂, n₃]⟩ : Shape) (⟨3, ![10000, 64, n₃]⟩ : Shape) where
  lhsContracting := [2, 3]
  rhsContracting := [0, 1]
  lhsNonContracting := [0, 1]
  rhsNonContracting := [2]
  lhsBatch := []
  rhsBatch := []
  wf := wf

theorem dot_apply {n₁ n₂ n₃ : ℕ}
    (wf : DotDims.WF (⟨4, ![10000, 64, n₁, n₂]⟩ : Shape) (⟨3, ![n₁, n₂, n₃]⟩ : Shape) (⟨3, ![10000, 64, n₃]⟩ : Shape)
      [2, 3] [0, 1] [0, 1] [2] [] [])
    (p : (⟨4, ![10000, 64, n₁, n₂]⟩ : Shape).Idx → EReal) (t : (⟨3, ![n₁, n₂, n₃]⟩ : Shape).Idx → EReal)
    (e : Fin 10000) (c : Fin 64) (k : Fin n₃) :
    Host.dotGeneral (F := Ideal) (φ₁ := .f32) (φ₂ := .f32) (dims wf) none p t (ix3 e c k) =
      ∑ i : Fin n₁, ∑ j : Fin n₂, p (ix4 e c i j) * t (ix3 i j k) := by
  refine (Ideal.matmul_apply₂ (dims wf) rfl rfl rfl p t _ _).trans ?_
  refine (zero_add _).trans (Finset.sum_congr rfl fun i _ => Finset.sum_congr rfl fun j _ => ?_)
  congr 2
  · funext a
    fin_cases a <;> rfl
  · funext a
    fin_cases a <;> rfl

/-- A coordinate on an axis of `n` positions, written as 0 where `n` is 1, is the coordinate. -/
theorem unit_or {n : ℕ} (i : Fin n) : i.val = if n = 1 then 0 else i.val := by
  split <;> omega

/-- The components of `x`, cut, where `y` has one component. -/
theorem left_apply_one {n₁ o₁ : ℕ} (h₁ : o₁ + n₁ ≤ 16) (x : (⟨3, ![10000, 64, 16]⟩ : Shape).Idx → EReal)
    (hs : (⟨3, ![10000, 64, 16]⟩ : Shape).Slices ![0, 0, o₁] (⟨3, ![10000, 64, n₁]⟩ : Shape))
    (hb : (⟨3, ![10000, 64, n₁]⟩ : Shape).BroadcastsInDim (⟨4, ![10000, 64, n₁, 1]⟩ : Shape) ![0, 1, 2])
    (e : Fin 10000) (c : Fin 64) (i : Fin n₁) (j : Fin 1) :
    broadcastInDim (⟨4, ![10000, 64, n₁, 1]⟩ : Shape) ![0, 1, 2] hb
      (extractStridedSlice (⟨3, ![10000, 64, n₁]⟩ : Shape) ![0, 0, o₁] x hs) (ix4 e c i j) =
      x (ix3 e c ⟨o₁ + i.val, by omega⟩) := by
  rw [broadcastInDim_apply _ hb _ _ (ix3 e c i) fun a => by fin_cases a; exacts [unit_or e, unit_or c, unit_or i]]
  refine extractStridedSlice_apply _ x hs _ _ fun a => ?_
  fin_cases a
  exacts [(Nat.zero_add _).symm, (Nat.zero_add _).symm, rfl]

/-- The components of `x`, cut and repeated along the components of `y`. -/
theorem left_apply {n₁ n₂ o₁ : ℕ} (h₁ : o₁ + n₁ ≤ 16) (x : (⟨3, ![10000, 64, 16]⟩ : Shape).Idx → EReal)
    (hs : (⟨3, ![10000, 64, 16]⟩ : Shape).Slices ![0, 0, o₁] (⟨3, ![10000, 64, n₁]⟩ : Shape))
    (hb : (⟨3, ![10000, 64, n₁]⟩ : Shape).BroadcastsInDim (⟨4, ![10000, 64, n₁, 1]⟩ : Shape) ![0, 1, 2])
    (hb' : (⟨4, ![10000, 64, n₁, 1]⟩ : Shape).BroadcastsInDim (⟨4, ![10000, 64, n₁, n₂]⟩ : Shape) ![0, 1, 2, 3])
    (e : Fin 10000) (c : Fin 64) (i : Fin n₁) (j : Fin n₂) :
    broadcastInDim (⟨4, ![10000, 64, n₁, n₂]⟩ : Shape) ![0, 1, 2, 3] hb'
      (broadcastInDim (⟨4, ![10000, 64, n₁, 1]⟩ : Shape) ![0, 1, 2] hb
        (extractStridedSlice (⟨3, ![10000, 64, n₁]⟩ : Shape) ![0, 0, o₁] x hs)) (ix4 e c i j) =
      x (ix3 e c ⟨o₁ + i.val, by omega⟩) := by
  rw [broadcastInDim_apply _ hb' _ _ (ix4 e c i 0) fun a => by fin_cases a; exacts [unit_or e, unit_or c, unit_or i, rfl]]
  exact left_apply_one h₁ x hs hb e c i 0

/-- The components of `y`, cut and repeated along the channels and the components of `x`. -/
theorem right_apply {n₁ n₂ o₂ : ℕ} (h₂ : o₂ + n₂ ≤ 16) (y : (⟨2, ![10000, 16]⟩ : Shape).Idx → EReal)
    (hs : (⟨2, ![10000, 16]⟩ : Shape).Slices ![0, o₂] (⟨2, ![10000, n₂]⟩ : Shape))
    (hb : (⟨2, ![10000, n₂]⟩ : Shape).BroadcastsInDim (⟨4, ![10000, 1, 1, n₂]⟩ : Shape) ![0, 3])
    (hb' : (⟨4, ![10000, 1, 1, n₂]⟩ : Shape).BroadcastsInDim (⟨4, ![10000, 64, n₁, n₂]⟩ : Shape) ![0, 1, 2, 3])
    (e : Fin 10000) (c : Fin 64) (i : Fin n₁) (j : Fin n₂) :
    broadcastInDim (⟨4, ![10000, 64, n₁, n₂]⟩ : Shape) ![0, 1, 2, 3] hb'
      (broadcastInDim (⟨4, ![10000, 1, 1, n₂]⟩ : Shape) ![0, 3] hb
        (extractStridedSlice (⟨2, ![10000, n₂]⟩ : Shape) ![0, o₂] y hs)) (ix4 e c i j) =
      y (ix2 e ⟨o₂ + j.val, by omega⟩) := by
  rw [broadcastInDim_apply _ hb' _ _ (ix4 e 0 0 j) fun a => by fin_cases a; exacts [unit_or e, rfl, rfl, unit_or j],
    broadcastInDim_apply _ hb _ _ (ix2 e j) fun a => by fin_cases a; exacts [unit_or e, unit_or j]]
  refine extractStridedSlice_apply _ y hs _ _ fun a => ?_
  fin_cases a
  exacts [(Nat.zero_add _).symm, rfl]

/-- An instruction's result is its window of columns of the array. -/
theorem piece_eq (x : (⟨3, ![10000, 64, 16]⟩ : Shape).Idx → EReal) (y : (⟨2, ![10000, 16]⟩ : Shape).Idx → EReal)
    {n₁ n₂ n₃ o₁ o₂ oo : ℕ} (h₁ : o₁ + n₁ ≤ 16) (h₂ : o₂ + n₂ ≤ 16)
    {g : (⟨3, ![n₁, n₂, n₃]⟩ : Shape).Idx → BitVec 32} (hg : Tables.Placed n₁ n₂ n₃ o₁ o₂ oo g)
    (wf : DotDims.WF (⟨4, ![10000, 64, n₁, n₂]⟩ : Shape) (⟨3, ![n₁, n₂, n₃]⟩ : Shape) (⟨3, ![10000, 64, n₃]⟩ : Shape)
      [2, 3] [0, 1] [0, 1] [2] [] [])
    {l r : (⟨4, ![10000, 64, n₁, n₂]⟩ : Shape).Idx → EReal}
    (hl : ∀ e c i j, l (ix4 e c i j) = x (ix3 e c ⟨o₁ + i.val, by omega⟩))
    (hr : ∀ e c i j, r (ix4 e c i j) = y (ix2 e ⟨o₂ + j.val, by omega⟩))
    (e : Fin 10000) (c : Fin 64) (k : Fin n₃) (hk : oo + k.val < 99) :
    Host.dotGeneral (F := Ideal) (φ₁ := .f32) (φ₂ := .f32) (dims wf) none (mulf (F := Ideal) (φ := .f32) l r)
        (fun i => FloatOps.ofBits (F := Ideal) .f32 (g i)) (ix3 e c k) =
      Spec.tp x y (ix3 e c ⟨oo + k.val, hk⟩) := by
  rw [dot_apply, Spec.window_eq x y h₁ h₂ hg]
  refine Finset.sum_congr rfl fun i _ => Finset.sum_congr rfl fun j _ => ?_
  show l (ix4 e c i j) * r (ix4 e c i j) * _ = _
  rw [hl, hr]
  rfl

/-- An instruction in front of the instructions after it. -/
theorem fits_piece {x : (⟨3, ![10000, 64, 16]⟩ : Shape).Idx → EReal} {y : (⟨2, ![10000, 16]⟩ : Shape).Idx → EReal}
    {n₁ n₂ n₃ o₁ o₂ oo : ℕ} {g : (⟨3, ![n₁, n₂, n₃]⟩ : Shape).Idx → BitVec 32} (hg : Tables.Placed n₁ n₂ n₃ o₁ o₂ oo g)
    (h₁ : o₁ + n₁ ≤ 16) (h₂ : o₂ + n₂ ≤ 16)
    {wf : DotDims.WF (⟨4, ![10000, 64, n₁, n₂]⟩ : Shape) (⟨3, ![n₁, n₂, n₃]⟩ : Shape) (⟨3, ![10000, 64, n₃]⟩ : Shape)
      [2, 3] [0, 1] [0, 1] [2] [] []}
    {hs : (⟨3, ![10000, 64, 16]⟩ : Shape).Slices ![0, 0, o₁] (⟨3, ![10000, 64, n₁]⟩ : Shape)}
    {hb : (⟨3, ![10000, 64, n₁]⟩ : Shape).BroadcastsInDim (⟨4, ![10000, 64, n₁, 1]⟩ : Shape) ![0, 1, 2]}
    {hb' : (⟨4, ![10000, 64, n₁, 1]⟩ : Shape).BroadcastsInDim (⟨4, ![10000, 64, n₁, n₂]⟩ : Shape) ![0, 1, 2, 3]}
    {ht : (⟨2, ![10000, 16]⟩ : Shape).Slices ![0, o₂] (⟨2, ![10000, n₂]⟩ : Shape)}
    {hc : (⟨2, ![10000, n₂]⟩ : Shape).BroadcastsInDim (⟨4, ![10000, 1, 1, n₂]⟩ : Shape) ![0, 3]}
    {hc' : (⟨4, ![10000, 1, 1, n₂]⟩ : Shape).BroadcastsInDim (⟨4, ![10000, 64, n₁, n₂]⟩ : Shape) ![0, 1, 2, 3]}
    {ps : List ((s : Shape) × (s.Idx → EReal))} (hps : Concat.Fits (Spec.tp x y) (oo + n₃) ps) :
    Concat.Fits (Spec.tp x y) oo (⟨⟨3, ![10000, 64, n₃]⟩, Host.dotGeneral (F := Ideal) (φ₁ := .f32) (φ₂ := .f32) (dims wf) none
      (mulf (F := Ideal) (φ := .f32)
        (broadcastInDim (⟨4, ![10000, 64, n₁, n₂]⟩ : Shape) ![0, 1, 2, 3] hb'
          (broadcastInDim (⟨4, ![10000, 64, n₁, 1]⟩ : Shape) ![0, 1, 2] hb
            (extractStridedSlice (⟨3, ![10000, 64, n₁]⟩ : Shape) ![0, 0, o₁] x hs)))
        (broadcastInDim (⟨4, ![10000, 64, n₁, n₂]⟩ : Shape) ![0, 1, 2, 3] hc'
          (broadcastInDim (⟨4, ![10000, 1, 1, n₂]⟩ : Shape) ![0, 3] hc
            (extractStridedSlice (⟨2, ![10000, n₂]⟩ : Shape) ![0, o₂] y ht))))
      (fun i => FloatOps.ofBits (F := Ideal) .f32 (g i))⟩ :: ps) :=
  .cons (piece_eq x y h₁ h₂ hg wf (left_apply h₁ x hs hb hb') (right_apply h₂ y ht hc hc')) hps

/-- The same where `y` has one component. -/
theorem fits_piece_one {x : (⟨3, ![10000, 64, 16]⟩ : Shape).Idx → EReal} {y : (⟨2, ![10000, 16]⟩ : Shape).Idx → EReal}
    {n₁ n₃ o₁ o₂ oo : ℕ} {g : (⟨3, ![n₁, 1, n₃]⟩ : Shape).Idx → BitVec 32} (hg : Tables.Placed n₁ 1 n₃ o₁ o₂ oo g)
    (h₁ : o₁ + n₁ ≤ 16) (h₂ : o₂ + 1 ≤ 16)
    {wf : DotDims.WF (⟨4, ![10000, 64, n₁, 1]⟩ : Shape) (⟨3, ![n₁, 1, n₃]⟩ : Shape) (⟨3, ![10000, 64, n₃]⟩ : Shape)
      [2, 3] [0, 1] [0, 1] [2] [] []}
    {hs : (⟨3, ![10000, 64, 16]⟩ : Shape).Slices ![0, 0, o₁] (⟨3, ![10000, 64, n₁]⟩ : Shape)}
    {hb : (⟨3, ![10000, 64, n₁]⟩ : Shape).BroadcastsInDim (⟨4, ![10000, 64, n₁, 1]⟩ : Shape) ![0, 1, 2]}
    {ht : (⟨2, ![10000, 16]⟩ : Shape).Slices ![0, o₂] (⟨2, ![10000, 1]⟩ : Shape)}
    {hc : (⟨2, ![10000, 1]⟩ : Shape).BroadcastsInDim (⟨4, ![10000, 1, 1, 1]⟩ : Shape) ![0, 3]}
    {hc' : (⟨4, ![10000, 1, 1, 1]⟩ : Shape).BroadcastsInDim (⟨4, ![10000, 64, n₁, 1]⟩ : Shape) ![0, 1, 2, 3]}
    {ps : List ((s : Shape) × (s.Idx → EReal))} (hps : Concat.Fits (Spec.tp x y) (oo + n₃) ps) :
    Concat.Fits (Spec.tp x y) oo (⟨⟨3, ![10000, 64, n₃]⟩, Host.dotGeneral (F := Ideal) (φ₁ := .f32) (φ₂ := .f32) (dims wf) none
      (mulf (F := Ideal) (φ := .f32)
        (broadcastInDim (⟨4, ![10000, 64, n₁, 1]⟩ : Shape) ![0, 1, 2] hb
          (extractStridedSlice (⟨3, ![10000, 64, n₁]⟩ : Shape) ![0, 0, o₁] x hs))
        (broadcastInDim (⟨4, ![10000, 64, n₁, 1]⟩ : Shape) ![0, 1, 2, 3] hc'
          (broadcastInDim (⟨4, ![10000, 1, 1, 1]⟩ : Shape) ![0, 3] hc
            (extractStridedSlice (⟨2, ![10000, 1]⟩ : Shape) ![0, o₂] y ht))))
      (fun i => FloatOps.ofBits (F := Ideal) .f32 (g i))⟩ :: ps) :=
  .cons (piece_eq x y h₁ h₂ hg wf (left_apply_one h₁ x hs hb) (right_apply h₂ y ht hc hc')) hps

end Cert.RefPiece

end
-- ==== Proof.RefValue.lean ====
/-
  WHAT THE REFERENCE'S RESULT HOLDS: its 23 instructions in their order, each its window of columns of the array
  `Spec.tp` (Proof/RefPiece.lean), joined 16 and 7 at a time and then together (Proof/Concat.lean).
-/
module

public import proofs.«01_k».proof.Proof.Gen.ReferenceIdeal.Run
public import proofs.«01_k».proof.Proof.RefPiece

@[expose] public section

open Idealize.ShloMosaic Idealize.ShloMosaic.StableHlo Idealize.SL.Sem

noncomputable section

namespace Cert.ReferenceIdeal

variable (V : Valuation τ sig (Elt Ideal))

/-- The array, of the two arguments. -/
abbrev want : (⟨3, ![10000, 64, 99]⟩ : Shape).Idx → EReal :=
  Spec.tp (V (Proc.devRef .tc main_arg0)) (V (Proc.devRef .tc main_arg1))

/-- The first 16 instructions: columns 0 to 63. -/
theorem first_apply (e : Fin 10000) (c : Fin 64) (k : Fin 64) (hk : 0 + k.val < 99) :
    (Value.res_main_v180 V : S10000x64x64.Idx → EReal) (ix3 e c k) = want V (ix3 e c ⟨0 + k.val, hk⟩) := by
  unfold Value.res_main_v180
  refine Concat.concat_apply ?_ _ e c k hk
  refine RefPiece.fits_piece_one Tables.placed_0 (by decide) (by decide) ?_
  refine RefPiece.fits_piece Tables.placed_1 (by decide) (by decide) ?_
  refine RefPiece.fits_piece Tables.placed_2 (by decide) (by decide) ?_
  refine RefPiece.fits_piece Tables.placed_3 (by decide) (by decide) ?_
  refine RefPiece.fits_piece_one Tables.placed_4 (by decide) (by decide) ?_
  refine RefPiece.fits_piece Tables.placed_5 (by decide) (by decide) ?_
  refine RefPiece.fits_piece Tables.placed_6 (by decide) (by decide) ?_
  refine RefPiece.fits_piece Tables.placed_7 (by decide) (by decide) ?_
  refine RefPiece.fits_piece Tables.placed_8 (by decide) (by decide) ?_
  refine RefPiece.fits_piece Tables.placed_9 (by decide) (by decide) ?_
  refine RefPiece.fits_piece_one Tables.placed_10 (by decide) (by decide) ?_
  refine RefPiece.fits_piece Tables.placed_11 (by decide) (by decide) ?_
  refine RefPiece.fits_piece Tables.placed_12 (by decide) (by decide) ?_
  refine RefPiece.fits_piece Tables.placed_13 (by decide) (by decide) ?_
  refine RefPiece.fits_piece Tables.placed_14 (by decide) (by decide) ?_
  refine RefPiece.fits_piece Tables.placed_15 (by decide) (by decide) ?_
  exact .nil _

/-- The last 7 instructions: columns 64 to 98. -/
theorem second_apply (e : Fin 10000) (c : Fin 64) (k : Fin 35) (hk : 64 + k.val < 99) :
    (Value.res_main_v181 V : S10000x64x35.Idx → EReal) (ix3 e c k) = want V (ix3 e c ⟨64 + k.val, hk⟩) := by
  unfold Value.res_main_v181
  refine Concat.concat_apply ?_ _ e c k hk
  refine RefPiece.fits_piece Tables.placed_16 (by decide) (by decide) ?_
  refine RefPiece.fits_piece_one Tables.placed_17 (by decide) (by decide) ?_
  refine RefPiece.fits_piece Tables.placed_18 (by decide) (by decide) ?_
  refine RefPiece.fits_piece Tables.placed_19 (by decide) (by decide) ?_
  refine RefPiece.fits_piece Tables.placed_20 (by decide) (by decide) ?_
  refine RefPiece.fits_piece Tables.placed_21 (by decide) (by decide) ?_
  refine RefPiece.fits_piece Tables.placed_22 (by decide) (by decide) ?_
  exact .nil _

/-- The whole result. -/
theorem result_eq :
    concatenate S10000x64x99 2 [⟨S10000x64x64, Value.res_main_v180 V⟩, ⟨S10000x64x35, Value.res_main_v181 V⟩]
      Facts₀.concatenates_S10000x64x64_S10000x64x35_S10000x64x99_d2 = want V := by
  funext j
  idx_vars j
  refine (Concat.concat_apply (G := want V) (pre := 0) (.cons (first_apply V) (.cons (second_apply V) (.nil _))) _ j0 j1 j2
    (by omega)).trans ?_
  simp only [Nat.zero_add]

/-- The run: the result is the array of the two arguments, which end unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v182) =
        Spec.tp (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (result_eq (launchContents m c)), (h c).2⟩) (Value.run m ρ)

end Cert.ReferenceIdeal

end
-- ==== Proof.lean ====
/-
  Hand-written. The proof of `Cert.Claim` (proof/Defs.lean). The two kernel programs' frames are the generated ones; the
  reference's frame is its run read at its two arguments, and its counters stay at zero because it has none. No operation
  was rewritten between the kernel and its ideal reading, so `preserves` has nothing to show. The algebraic claim: both
  programs' results are one array of the two arguments, `Spec.tp` (Proof/KernelValue.lean and Proof/RefValue.lean).
-/
module

public import proofs.«01_k».proof.Defs
public import proofs.«01_k».proof.Proof.Gen.Kernel.Frame
public import proofs.«01_k».proof.Proof.KernelValue
public import proofs.«01_k».proof.Proof.RefValue

@[expose] public section

noncomputable section

namespace Cert.Proof

open Idealize.ShloMosaic Idealize.SL.Sem

/-- The reference runs, keeps its arguments, and leaves every counter at zero. -/
theorem frame_reference : Cert.quiescent_ReferenceIdeal (hReferenceIdeal := Cert.ReferenceIdeal.Gen.facts) := fun m g _ =>
  (θ_run (Cert.ReferenceIdeal.defs (F := Ideal)) _ _).mono
    (fun r h => ⟨fun c => (h c).2, sem_eq_zero_of_no_sems (by decide) r.2⟩) (Cert.ReferenceIdeal.run m g)

/-- From equal arguments the kernel and the reference end with equal results. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Cert.Spec.tp (m ((c.tc : Thread _ _).loc Cert.KernelIdeal.main_arg0))
    (m ((c.tc : Thread _ _).loc Cert.KernelIdeal.main_arg1)), Cert.KernelIdeal.run m g, ?_⟩
  refine (θ_run (Cert.ReferenceIdeal.defs (F := Ideal)) _ _).mono (fun r h c => ?_) (Cert.ReferenceIdeal.run m' g')
  obtain ⟨hv, h0, h1⟩ := h c
  refine ⟨hv.trans ?_, h0, h1⟩
  rw [(hargs c).1, (hargs c).2]

theorem claim : Cert.Claim :=
  ⟨Cert.Kernel.Gen.facts, Cert.KernelIdeal.Gen.facts, Cert.ReferenceIdeal.Gen.facts, fun m g _ => Cert.Kernel.Gen.frame m g,
    fun m g _ => Cert.KernelIdeal.Gen.frame m g, frame_reference, trivial, algebraic⟩

end Cert.Proof

end
